-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048x80 : Shape := ⟨3, ![64, 2048, 80]⟩
abbrev S64x2048x4 : Shape := ⟨3, ![64, 2048, 4]⟩
abbrev S64x2048x18 : Shape := ⟨3, ![64, 2048, 18]⟩
abbrev S64x2048x9 : Shape := ⟨3, ![64, 2048, 9]⟩
abbrev S64x2 : Shape := ⟨2, ![64, 2]⟩
abbrev S64x163840 : Shape := ⟨2, ![64, 163840]⟩
abbrev S64x300 : Shape := ⟨2, ![64, 300]⟩
abbrev S64x1x300 : Shape := ⟨3, ![64, 1, 300]⟩
abbrev S64x1x2 : Shape := ⟨3, ![64, 1, 2]⟩
abbrev S64x300x4 : Shape := ⟨3, ![64, 300, 4]⟩
abbrev S64x300x18 : Shape := ⟨3, ![64, 300, 18]⟩
abbrev S64x300x9 : Shape := ⟨3, ![64, 300, 9]⟩
abbrev S1x1x300 : Shape := ⟨3, ![1, 1, 300]⟩
abbrev S1x2048x4 : Shape := ⟨3, ![1, 2048, 4]⟩
abbrev S1x2048x18 : Shape := ⟨3, ![1, 2048, 18]⟩
abbrev S1x2048x9 : Shape := ⟨3, ![1, 2048, 9]⟩
abbrev S1x1x2 : Shape := ⟨3, ![1, 1, 2]⟩
abbrev S1x300x4 : Shape := ⟨3, ![1, 300, 4]⟩
abbrev S1x300x18 : Shape := ⟨3, ![1, 300, 18]⟩
abbrev S1x300x9 : Shape := ⟨3, ![1, 300, 9]⟩
abbrev S1x300 : Shape := ⟨2, ![1, 300]⟩
abbrev S300x1 : Shape := ⟨2, ![300, 1]⟩
abbrev S300x2048 : Shape := ⟨2, ![300, 2048]⟩
abbrev S2048x4 : Shape := ⟨2, ![2048, 4]⟩
abbrev S2048x18 : Shape := ⟨2, ![2048, 18]⟩
abbrev S2048x9 : Shape := ⟨2, ![2048, 9]⟩
abbrev S2048x31 : Shape := ⟨2, ![2048, 31]⟩
abbrev S300x31 : Shape := ⟨2, ![300, 31]⟩
abbrev S1x1x1 : Shape := ⟨3, ![1, 1, 1]⟩
abbrev S300x4 : Shape := ⟨2, ![300, 4]⟩
abbrev S1x18 : Shape := ⟨2, ![1, 18]⟩
abbrev S300x18 : Shape := ⟨2, ![300, 18]⟩
abbrev S300x9 : Shape := ⟨2, ![300, 9]⟩
abbrev S64x300x9x2 : Shape := ⟨4, ![64, 300, 9, 2]⟩

abbrev nBuf : Space → Nat
  | .hbm => 19
  | .vmem => 22
  | .smem => 0
  | _ => 0

abbrev bufTy : (tb : Table) → Fin (tcTables nBuf tb) → BufTy
  | .hbm, ⟨0, _⟩ => ⟨S64x2048x80, .f32⟩
  | .hbm, ⟨1, _⟩ => ⟨S64x2048x4, .f32⟩
  | .hbm, ⟨2, _⟩ => ⟨S64x2048x18, .f32⟩
  | .hbm, ⟨3, _⟩ => ⟨S64x2048x9, .f32⟩
  | .hbm, ⟨4, _⟩ => ⟨S64x2, .f32⟩
  | .hbm, ⟨5, _⟩ => ⟨S64x163840, .f32⟩
  | .hbm, ⟨6, _⟩ => ⟨S64x300, .f32⟩
  | .hbm, ⟨7, _⟩ => ⟨S64x300, .i32⟩
  | .hbm, ⟨8, _⟩ => ⟨S64x1x300, .i32⟩
  | .hbm, ⟨9, _⟩ => ⟨S64x1x300, .f32⟩
  | .hbm, ⟨10, _⟩ => ⟨S64x1x2, .f32⟩
  | .hbm, ⟨11, _⟩ => ⟨S64x1x300, .i32⟩
  | .hbm, ⟨12, _⟩ => ⟨S64x300x4, .f32⟩
  | .hbm, ⟨13, _⟩ => ⟨S64x1x300, .f32⟩
  | .hbm, ⟨14, _⟩ => ⟨S64x300x18, .f32⟩
  | .hbm, ⟨15, _⟩ => ⟨S64x300x9, .f32⟩
  | .hbm, ⟨16, _⟩ => ⟨S64x300x9x2, .f32⟩
  | .hbm, ⟨17, _⟩ => ⟨S64x300, .i32⟩
  | .hbm, ⟨18, _⟩ => ⟨S64x300, .f32⟩
  | .local _ .vmem, ⟨0, _⟩ => ⟨S1x1x300, .i32⟩
  | .local _ .vmem, ⟨1, _⟩ => ⟨S1x1x300, .i32⟩
  | .local _ .vmem, ⟨2, _⟩ => ⟨S1x1x300, .f32⟩
  | .local _ .vmem, ⟨3, _⟩ => ⟨S1x1x300, .f32⟩
  | .local _ .vmem, ⟨4, _⟩ => ⟨S1x2048x4, .f32⟩
  | .local _ .vmem, ⟨5, _⟩ => ⟨S1x2048x4, .f32⟩
  | .local _ .vmem, ⟨6, _⟩ => ⟨S1x2048x18, .f32⟩
  | .local _ .vmem, ⟨7, _⟩ => ⟨S1x2048x18, .f32⟩
  | .local _ .vmem, ⟨8, _⟩ => ⟨S1x2048x9, .f32⟩
  | .local _ .vmem, ⟨9, _⟩ => ⟨S1x2048x9, .f32⟩
  | .local _ .vmem, ⟨10, _⟩ => ⟨S1x1x2, .f32⟩
  | .local _ .vmem, ⟨11, _⟩ => ⟨S1x1x2, .f32⟩
  | .local _ .vmem, ⟨12, _⟩ => ⟨S1x1x300, .i32⟩
  | .local _ .vmem, ⟨13, _⟩ => ⟨S1x1x300, .i32⟩
  | .local _ .vmem, ⟨14, _⟩ => ⟨S1x300x4, .f32⟩
  | .local _ .vmem, ⟨15, _⟩ => ⟨S1x300x4, .f32⟩
  | .local _ .vmem, ⟨16, _⟩ => ⟨S1x1x300, .f32⟩
  | .local _ .vmem, ⟨17, _⟩ => ⟨S1x1x300, .f32⟩
  | .local _ .vmem, ⟨18, _⟩ => ⟨S1x300x18, .f32⟩
  | .local _ .vmem, ⟨19, _⟩ => ⟨S1x300x18, .f32⟩
  | .local _ .vmem, ⟨20, _⟩ => ⟨S1x300x9, .f32⟩
  | .local _ .vmem, ⟨21, _⟩ => ⟨S1x300x9, .f32⟩
  | _, _ => ⟨S64x2048x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x300 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x18 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x300 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x300x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x300 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x300x18 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x300x9 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S64x2048x80 : Shape := ⟨3, ![64, 2048, 80]⟩
abbrev S64x2048x4 : Shape := ⟨3, ![64, 2048, 4]⟩
abbrev S64x2048x18 : Shape := ⟨3, ![64, 2048, 18]⟩
abbrev S64x2048x9 : Shape := ⟨3, ![64, 2048, 9]⟩
abbrev S64x2 : Shape := ⟨2, ![64, 2]⟩
abbrev S64x2048x1 : Shape := ⟨3, ![64, 2048, 1]⟩
abbrev S_ : Shape := ⟨0, ![]⟩
abbrev S1x64x1x2 : Shape := ⟨4, ![1, 64, 1, 2]⟩
abbrev S1x64x2x2 : Shape := ⟨4, ![1, 64, 2, 2]⟩
abbrev S64x4 : Shape := ⟨2, ![64, 4]⟩
abbrev S64x1x4 : Shape := ⟨3, ![64, 1, 4]⟩
abbrev S64x163840 : Shape := ⟨2, ![64, 163840]⟩
abbrev S64x300 : Shape := ⟨2, ![64, 300]⟩
abbrev S64x300x1 : Shape := ⟨3, ![64, 300, 1]⟩
abbrev S1 : Shape := ⟨1, ![1]⟩
abbrev S1x1x1 : Shape := ⟨3, ![1, 1, 1]⟩
abbrev S64x300x4 : Shape := ⟨3, ![64, 300, 4]⟩
abbrev S64x2048x9x2 : Shape := ⟨4, ![64, 2048, 9, 2]⟩
abbrev S64x300x1x1 : Shape := ⟨4, ![64, 300, 1, 1]⟩
abbrev S64x300x9x2 : Shape := ⟨4, ![64, 300, 9, 2]⟩
abbrev S64x1x1x2 : Shape := ⟨4, ![64, 1, 1, 2]⟩
abbrev S64x300x9 : Shape := ⟨3, ![64, 300, 9]⟩

abbrev nBuf : Space → Nat
  | .hbm => 168
  | .vmem => 0
  | .smem => 0
  | _ => 0

abbrev hbmTy0_0 (i : Nat) : BufTy := match i % 128 with
  | 0 => ⟨S64x2048x80, .f32⟩
  | 1 => ⟨S64x2048x4, .f32⟩
  | 2 => ⟨S64x2048x18, .f32⟩
  | 3 => ⟨S64x2048x9, .f32⟩
  | 4 => ⟨S64x2, .f32⟩
  | 5 => ⟨S64x2048x1, .f32⟩
  | 6 => ⟨S64x2048x1, .f32⟩
  | 7 => ⟨S64x2048x1, .f32⟩
  | 8 => ⟨S64x2048x1, .f32⟩
  | 9 => ⟨S_, .f32⟩
  | 10 => ⟨S64x2048x1, .f32⟩
  | 11 => ⟨S64x2048x1, .f32⟩
  | 12 => ⟨S64x2048x1, .f32⟩
  | 13 => ⟨S_, .f32⟩
  | 14 => ⟨S64x2048x1, .f32⟩
  | 15 => ⟨S64x2048x1, .f32⟩
  | 16 => ⟨S64x2048x1, .f32⟩
  | 17 => ⟨S_, .f32⟩
  | 18 => ⟨S64x2048x1, .f32⟩
  | 19 => ⟨S64x2048x1, .f32⟩
  | 20 => ⟨S64x2048x1, .f32⟩
  | 21 => ⟨S_, .f32⟩
  | 22 => ⟨S64x2048x1, .f32⟩
  | 23 => ⟨S64x2048x1, .f32⟩
  | 24 => ⟨S64x2048x1, .f32⟩
  | 25 => ⟨S64x2048x4, .f32⟩
  | 26 => ⟨S1x64x1x2, .f32⟩
  | 27 => ⟨S1x64x2x2, .f32⟩
  | 28 => ⟨S64x4, .f32⟩
  | 29 => ⟨S64x1x4, .f32⟩
  | 30 => ⟨S64x2048x4, .f32⟩
  | 31 => ⟨S64x2048x4, .f32⟩
  | 32 => ⟨S64x2048x80, .f32⟩
  | 33 => ⟨S64x2048x80, .f32⟩
  | 34 => ⟨S_, .f32⟩
  | 35 => ⟨S64x2048x80, .f32⟩
  | 36 => ⟨S64x2048x80, .f32⟩
  | 37 => ⟨S_, .f32⟩
  | 38 => ⟨S64x2048x80, .f32⟩
  | 39 => ⟨S64x2048x80, .f32⟩
  | 40 => ⟨S64x163840, .f32⟩
  | 41 => ⟨S64x300, .f32⟩
  | 42 => ⟨S64x300, .i32⟩
  | 43 => ⟨S_, .i32⟩
  | 44 => ⟨S_, .i32⟩
  | 45 => ⟨S64x300, .i32⟩
  | 46 => ⟨S64x300, .i32⟩
  | 47 => ⟨S64x300, .i32⟩
  | 48 => ⟨S_, .i32⟩
  | 49 => ⟨S64x300, .i32⟩
  | 50 => ⟨S64x300, .i1⟩
  | 51 => ⟨S64x300, .i32⟩
  | 52 => ⟨S64x300, .i32⟩
  | 53 => ⟨S_, .i32⟩
  | 54 => ⟨S64x300, .i32⟩
  | 55 => ⟨S64x300, .i1⟩
  | 56 => ⟨S64x300, .i1⟩
  | 57 => ⟨S_, .i32⟩
  | 58 => ⟨S64x300, .i32⟩
  | 59 => ⟨S64x300, .i32⟩
  | 60 => ⟨S64x300, .i32⟩
  | 61 => ⟨S_, .i32⟩
  | 62 => ⟨S64x300, .i32⟩
  | 63 => ⟨S64x300, .i32⟩
  | 64 => ⟨S64x300, .i32⟩
  | 65 => ⟨S_, .i32⟩
  | 66 => ⟨S_, .i32⟩
  | 67 => ⟨S64x300, .i32⟩
  | 68 => ⟨S64x300, .i32⟩
  | 69 => ⟨S64x300, .i32⟩
  | 70 => ⟨S_, .i32⟩
  | 71 => ⟨S64x300, .i32⟩
  | 72 => ⟨S64x300, .i1⟩
  | 73 => ⟨S64x300, .i32⟩
  | 74 => ⟨S64x300, .i32⟩
  | 75 => ⟨S_, .i32⟩
  | 76 => ⟨S64x300, .i32⟩
  | 77 => ⟨S64x300, .i1⟩
  | 78 => ⟨S64x300, .i1⟩
  | 79 => ⟨S_, .i32⟩
  | 80 => ⟨S64x300, .i32⟩
  | 81 => ⟨S64x300, .i32⟩
  | 82 => ⟨S64x300, .i32⟩
  | 83 => ⟨S64x300x1, .i32⟩
  | 84 => ⟨S_, .i32⟩
  | 85 => ⟨S64x300x1, .i32⟩
  | 86 => ⟨S64x300x1, .i1⟩
  | 87 => ⟨S_, .i32⟩
  | 88 => ⟨S64x300x1, .i32⟩
  | 89 => ⟨S64x300x1, .i32⟩
  | 90 => ⟨S64x300x1, .i32⟩
  | 91 => ⟨S1, .i32⟩
  | 92 => ⟨S_, .i32⟩
  | 93 => ⟨S64x300x1, .i32⟩
  | 94 => ⟨S64x300x1, .i1⟩
  | 95 => ⟨S1x1x1, .i32⟩
  | 96 => ⟨S64x300x1, .i32⟩
  | 97 => ⟨S64x300x1, .i1⟩
  | 98 => ⟨S64x300x1, .i1⟩
  | 99 => ⟨S_, .i1⟩
  | 100 => ⟨S64x300, .i1⟩
  | 101 => ⟨S64x300x4, .f32⟩
  | 102 => ⟨S64x300x4, .i1⟩
  | 103 => ⟨S_, .f32⟩
  | 104 => ⟨S64x300x4, .f32⟩
  | 105 => ⟨S64x300x4, .f32⟩
  | 106 => ⟨S64x2048x9x2, .f32⟩
  | 107 => ⟨S64x300x1x1, .i32⟩
  | 108 => ⟨S_, .i32⟩
  | 109 => ⟨S64x300x1x1, .i32⟩
  | 110 => ⟨S64x300x1x1, .i1⟩
  | 111 => ⟨S_, .i32⟩
  | 112 => ⟨S64x300x1x1, .i32⟩
  | 113 => ⟨S64x300x1x1, .i32⟩
  | 114 => ⟨S64x300x1x1, .i32⟩
  | 115 => ⟨S64x300x1, .i32⟩
  | 116 => ⟨S1, .i32⟩
  | 117 => ⟨S_, .i32⟩
  | 118 => ⟨S64x300x1, .i32⟩
  | 119 => ⟨S64x300x1, .i1⟩
  | 120 => ⟨S1x1x1, .i32⟩
  | 121 => ⟨S64x300x1, .i32⟩
  | 122 => ⟨S64x300x1, .i1⟩
  | 123 => ⟨S64x300x1, .i1⟩
  | 124 => ⟨S_, .i1⟩
  | 125 => ⟨S64x300, .i1⟩
  | 126 => ⟨S64x300x9x2, .f32⟩
  | 127 => ⟨S64x300x9x2, .i1⟩
  | _ => ⟨S64x2048x80, .f32⟩

abbrev hbmTy0_1 (i : Nat) : BufTy := match i % 128 with
  | 0 => ⟨S_, .f32⟩
  | 1 => ⟨S64x300x9x2, .f32⟩
  | 2 => ⟨S64x300x9x2, .f32⟩
  | 3 => ⟨S64x1x1x2, .f32⟩
  | 4 => ⟨S64x300x9x2, .f32⟩
  | 5 => ⟨S64x300x9x2, .f32⟩
  | 6 => ⟨S64x300x1, .i32⟩
  | 7 => ⟨S_, .i32⟩
  | 8 => ⟨S64x300x1, .i32⟩
  | 9 => ⟨S64x300x1, .i1⟩
  | 10 => ⟨S_, .i32⟩
  | 11 => ⟨S64x300x1, .i32⟩
  | 12 => ⟨S64x300x1, .i32⟩
  | 13 => ⟨S64x300x1, .i32⟩
  | 14 => ⟨S1, .i32⟩
  | 15 => ⟨S_, .i32⟩
  | 16 => ⟨S64x300x1, .i32⟩
  | 17 => ⟨S64x300x1, .i1⟩
  | 18 => ⟨S1x1x1, .i32⟩
  | 19 => ⟨S64x300x1, .i32⟩
  | 20 => ⟨S64x300x1, .i1⟩
  | 21 => ⟨S64x300x1, .i1⟩
  | 22 => ⟨S_, .i1⟩
  | 23 => ⟨S64x300, .i1⟩
  | 24 => ⟨S64x300x9, .f32⟩
  | 25 => ⟨S64x300x9, .i1⟩
  | 26 => ⟨S_, .f32⟩
  | 27 => ⟨S64x300x9, .f32⟩
  | 28 => ⟨S64x300x9, .f32⟩
  | 29 => ⟨S64x300x9, .f32⟩
  | 30 => ⟨S64x300x9, .f32⟩
  | 31 => ⟨S_, .f32⟩
  | 32 => ⟨S64x300x9, .f32⟩
  | 33 => ⟨S64x300x9, .f32⟩
  | 34 => ⟨S_, .f32⟩
  | 35 => ⟨S64x300x9, .f32⟩
  | 36 => ⟨S64x300x9, .f32⟩
  | 37 => ⟨S_, .i32⟩
  | 38 => ⟨S64x300, .i32⟩
  | 39 => ⟨S64x300, .i32⟩
  | _ => ⟨S64x2048x80, .f32⟩

abbrev hbmTy (i : Nat) : BufTy := match i / 128 with
  | 0 => hbmTy0_0 i
  | 1 => hbmTy0_1 i
  | _ => ⟨S64x2048x80, .f32⟩

abbrev bufTy : (tb : Table) → Fin (tcTables nBuf tb) → BufTy
  | .hbm, ⟨i, _⟩ => hbmTy i
  | _, _ => ⟨S64x2048x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_values : Ref sig .tc := ⟨.hbm, 41, rfl⟩
abbrev main_indices : Ref sig .tc := ⟨.hbm, 42, rfl⟩
abbrev main_c : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v30 : Ref sig .tc := ⟨.hbm, 60, rfl⟩
abbrev main_c_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_6 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v34 : Ref sig .tc := ⟨.hbm, 82, rfl⟩
abbrev main_v35 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_c_1 : Ref sig .tc := ⟨.hbm, 91, rfl⟩
abbrev main_call2_c_2 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_c_3 : Ref sig .tc := ⟨.hbm, 99, rfl⟩
abbrev main_call2_v11 : Ref sig .tc := ⟨.hbm, 100, rfl⟩
abbrev main_call2_v12 : Ref sig .tc := ⟨.hbm, 101, rfl⟩
abbrev main_call2_v13 : Ref sig .tc := ⟨.hbm, 102, rfl⟩
abbrev main_call2_cst : Ref sig .tc := ⟨.hbm, 103, rfl⟩
abbrev main_call2_v14 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_c_1 : Ref sig .tc := ⟨.hbm, 116, rfl⟩
abbrev main_call3_c_2 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_c_3 : Ref sig .tc := ⟨.hbm, 124, rfl⟩
abbrev main_call3_v12 : Ref sig .tc := ⟨.hbm, 125, rfl⟩
abbrev main_call3_v13 : Ref sig .tc := ⟨.hbm, 126, rfl⟩
abbrev main_call3_v14 : Ref sig .tc := ⟨.hbm, 127, rfl⟩
abbrev main_call3_cst : Ref sig .tc := ⟨.hbm, 128, rfl⟩
abbrev main_call3_v15 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_v42 : Ref sig .tc := ⟨.hbm, 133, rfl⟩
abbrev main_v43 : Ref sig .tc := ⟨.hbm, 134, rfl⟩
abbrev main_call4_c : Ref sig .tc := ⟨.hbm, 135, rfl⟩
abbrev main_call4_v0 : Ref sig .tc := ⟨.hbm, 136, rfl⟩
abbrev main_call4_v1 : Ref sig .tc := ⟨.hbm, 137, rfl⟩
abbrev main_call4_c_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_c_1 : Ref sig .tc := ⟨.hbm, 142, rfl⟩
abbrev main_call4_c_2 : Ref sig .tc := ⟨.hbm, 143, rfl⟩
abbrev main_call4_v5 : Ref sig .tc := ⟨.hbm, 144, rfl⟩
abbrev main_call4_v6 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_call4_c_3 : Ref sig .tc := ⟨.hbm, 150, rfl⟩
abbrev main_call4_v11 : Ref sig .tc := ⟨.hbm, 151, rfl⟩
abbrev main_call4_v12 : Ref sig .tc := ⟨.hbm, 152, rfl⟩
abbrev main_call4_v13 : Ref sig .tc := ⟨.hbm, 153, rfl⟩
abbrev main_call4_cst : Ref sig .tc := ⟨.hbm, 154, rfl⟩
abbrev main_call4_v14 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_cst_7 : Ref sig .tc := ⟨.hbm, 159, rfl⟩
abbrev main_v47 : Ref sig .tc := ⟨.hbm, 160, rfl⟩
abbrev main_v48 : Ref sig .tc := ⟨.hbm, 161, rfl⟩
abbrev main_cst_8 : Ref sig .tc := ⟨.hbm, 162, rfl⟩
abbrev main_v49 : Ref sig .tc := ⟨.hbm, 163, rfl⟩
abbrev main_v50 : Ref sig .tc := ⟨.hbm, 164, rfl⟩
abbrev main_c_9 : Ref sig .tc := ⟨.hbm, 165, rfl⟩
abbrev main_v51 : Ref sig .tc := ⟨.hbm, 166, rfl⟩
abbrev main_v52 : Ref sig .tc := ⟨.hbm, 167, rfl⟩

abbrev nD : Nat := 1
abbrev τ : Topo := Topo.v7x

variable {F : FTy → Type} [FloatOps F]
-- ==== Proof.TopK.lean ====
/- Two facts about the greatest `k` elements along an axis: a function that keeps the order can be applied before or
   after them, and the positions they report are numbers below the axis's extent. -/
module

public import Idealize.ShloMosaic.PureOps

@[expose] public section

namespace Cert.Proof

open Idealize.ShloMosaic

/-- Applying `f` to every element first, when `f` does not change the comparison, keeps the positions of the greatest
    elements. -/
theorem topK_map_index {s : Shape} {α β : Type} (t : Shape) (d : Nat) (gt : α → α → BitVec 1) (gt' : β → β → BitVec 1)
    (f : α → β) (hf : ∀ a b, gt' (f a) (f b) = gt a b) (x : s.Idx → α) (h : s.Slices (fun _ => 0) t) :
    (Host.topK t d gt' (fun i => f (x i)) h).2 = (Host.topK t d gt x h).2 := by
  unfold Host.topK Host.sort2
  simp only [hf]
  split <;> rfl

/-- … and the greatest elements themselves are `f` of the greatest elements of the original. -/
theorem topK_map_value {s : Shape} {α β : Type} (t : Shape) (d : Nat) (gt : α → α → BitVec 1) (gt' : β → β → BitVec 1)
    (f : α → β) (hf : ∀ a b, gt' (f a) (f b) = gt a b) (x : s.Idx → α) (h : s.Slices (fun _ => 0) t) (j : t.Idx) :
    (Host.topK t d gt' (fun i => f (x i)) h).1 j = f ((Host.topK t d gt x h).1 j) := by
  unfold Host.topK Host.sort2
  simp only [hf]
  split <;> rfl

/-- Every reported position is the 32-bit word of a number below the extent of the axis. -/
theorem topK_index_bound {s : Shape} {α : Type} (t : Shape) (d : Nat) (hd : d < s.rank) (gt : α → α → BitVec 1)
    (x : s.Idx → α) (h : s.Slices (fun _ => 0) t) (j : t.Idx) :
    ∃ k : Fin (s.size ⟨d, hd⟩), (Host.topK t d gt x h).2 j = BitVec.ofNat 32 k.val := by
  unfold Host.topK Host.sort2
  simp only [hd, ↓reduceDIte]
  unfold extractStridedSlice iotaInDim
  exact ⟨_, rfl⟩

end Cert.Proof
-- ==== Proof.Words.lean ====
/- Facts about 32-bit words that hold small natural numbers: the floor division by 80 that both programs make of a
   position among `2048 · 80` scores, as each of them spells it, and the tests that come with it. -/
module

public import Idealize.ShloMosaic.Lib.Routing.Words
public import Idealize.ShloMosaic.Lib.Affine

@[expose] public section

namespace Cert.Proof

open Idealize.ShloMosaic

/-- A select whose condition is the bit 0 takes its second branch. -/
theorem select_of_zero {α : Type} (c : BitVec 1) (a b : α) (h : c = 0#1) : Scalar.select c a b = b := by
  subst h; rfl

/-- A select whose condition is the bit 1 takes its first branch. -/
theorem select_of_one {α : Type} (c : BitVec 1) (a b : α) (h : c = 1#1) : Scalar.select c a b = a := by
  subst h; rfl

/-- The word of a natural number below `2 ^ 31` read as a signed integer is that number. -/
theorem toInt_small {k : Nat} (hk : k < 2 ^ 31) : (BitVec.ofNat 32 k).toInt = (k : Int) := by
  rw [BitVec.toInt_eq_toNat_of_lt] <;> rw [BitVec.toNat_ofNat, Nat.mod_eq_of_lt (by omega)]
  omega

/-- A bit that is not 1 is 0. -/
theorem bit_zero {c : BitVec 1} (h : ¬ c = 1#1) : c = 0#1 := by revert c; decide

/-- The word of a natural number is not below zero. -/
theorem slt_zero {k : Nat} (hk : k < 2 ^ 31) : IntOp.cmpi .slt (BitVec.ofNat 32 k) 0#32 = 0#1 :=
  bit_zero fun h => by
    have := IntOp.cmpi_slt.mp h
    rw [toInt_small hk] at this
    exact absurd this (by simp)

/-- The word of a positive natural number is above zero. -/
theorem sgt_zero {k : Nat} (h0 : 0 < k) (hk : k < 2 ^ 31) : IntOp.cmpi .sgt (BitVec.ofNat 32 k) 0#32 = 1#1 := by
  refine IntOp.cmpi_sgt.mpr ?_
  rw [toInt_small hk]
  simpa using h0

/-- The word of a natural number is at least zero. -/
theorem sge_zero {k : Nat} (hk : k < 2 ^ 31) : IntOp.cmpi .sge (BitVec.ofNat 32 k) 0#32 = 1#1 := by
  refine IntOp.cmpi_sge.mpr ?_
  rw [toInt_small hk]
  simp

/-- The words of two natural numbers compare as the numbers do. -/
theorem sle_small {k n : Nat} (hkn : k ≤ n) (hn : n < 2 ^ 31) : IntOp.cmpi .sle (BitVec.ofNat 32 k) (BitVec.ofNat 32 n) = 1#1 := by
  refine IntOp.cmpi_sle.mpr ?_
  rw [toInt_small (by omega), toInt_small hn]
  omega

/-- The words of two natural numbers below `2 ^ 32` are equal only when the numbers are. -/
theorem cmpi_eq_small {a b : Nat} (ha : a < 2 ^ 32) (hb : b < 2 ^ 32) :
    IntOp.cmpi .eq (BitVec.ofNat 32 a) (BitVec.ofNat 32 b) = 1#1 ↔ a = b := by
  rw [IntOp.cmpi_eq]
  refine ⟨fun h => ?_, fun h => by rw [h]⟩
  have := congrArg BitVec.toNat h
  rwa [BitVec.toNat_ofNat, BitVec.toNat_ofNat, Nat.mod_eq_of_lt ha, Nat.mod_eq_of_lt hb] at this

/-- The grid kernel's floor division by 80 of the word of a natural number: the sign test with which the division
    towards zero is corrected never fires, so the result is the word of the quotient. -/
theorem kernel_floor_div {k : Nat} (hk : k < 2 ^ 31) :
    Scalar.select
      (IntOp.andi
        (IntOp.cmpi .ne
          (IntOp.subi (BitVec.setWidth 32 (IntOp.cmpi .sgt (BitVec.ofNat 32 k) 0#32))
            (BitVec.setWidth 32 (IntOp.cmpi .slt (BitVec.ofNat 32 k) 0#32)))
          (Scalar.subi (Scalar.extui (Scalar.cmpi .sgt 80#32 0#32)) (Scalar.extui (Scalar.cmpi .slt 80#32 0#32))))
        (IntOp.cmpi .ne (IntOp.remsi .vector (BitVec.ofNat 32 k) 80#32) 0#32))
      (IntOp.subi (IntOp.divsi .vector (BitVec.ofNat 32 k) 80#32) 1#32)
      (IntOp.divsi .vector (BitVec.ofNat 32 k) 80#32) = BitVec.ofNat 32 (k / 80) := by
  rw [show (80#32 : BitVec 32) = BitVec.ofNat 32 80 from rfl,
    Routing.divsi_word .vector hk (by decide) (by decide), Routing.remsi_word .vector hk (by decide) (by decide)]
  refine select_of_zero _ _ _ ?_
  rcases Nat.eq_zero_or_pos k with h | h
  · subst h; decide
  · rw [sgt_zero h hk, slt_zero hk]
    generalize IntOp.cmpi .ne (BitVec.ofNat 32 (k % 80)) 0#32 = c
    revert c; decide

/-- The remainder of `k` by 80, as `k - (k / 80) · 80` in words, plus one. -/
theorem label_word {k : Nat} (hk : k < 2 ^ 31) :
    IntOp.addi (IntOp.subi (BitVec.ofNat 32 k) (IntOp.muli (BitVec.ofNat 32 (k / 80)) 80#32)) 1#32
      = BitVec.ofNat 32 (k % 80 + 1) := by
  show BitVec.ofNat 32 k - BitVec.ofNat 32 (k / 80) * 80#32 + 1#32 = _
  bv_omega

end Cert.Proof
-- ==== Proof.Spec.lean ====
/- What the two programs compute, written out place by place over the arguments: for image `b` and place `n` of its
   three hundred greatest logits, the number of that logit among the image's `2048 · 80`, and from it the label, the
   score, the box, the keypoints and their visibility. -/
module

public import proofs.«01_k».proof.Proof.Gen.KernelIdeal
public import Idealize.ShloMosaic.Lib.Pipeline.ValueKit
public import proofs.«01_k».proof.Proof.TopK
public import proofs.«01_k».proof.Proof.Words

@[expose] public section

set_option maxRecDepth 16384

noncomputable section

namespace Cert.Proof

open Idealize.ShloMosaic Cert.KernelIdeal Cert.KernelIdeal.Gen

/-- The logits of every image, as one row for each image. -/
def flat (L : FVec Ideal S64x2048x80 .f32) : FVec Ideal S64x163840 .f32 :=
  shapeCast S64x163840 L shapeCasts_S64x2048x80_S64x163840

/-- The three hundred greatest logits of every image and their positions. -/
def top (L : FVec Ideal S64x2048x80 .f32) : FVec Ideal S64x300 .f32 × IVec S64x300 32 :=
  Host.topK S64x300 1 (FloatOps.cmpfTotal (F := Ideal) (φ := .f32) .gt) (flat L) sliceFits_S64x163840_S64x300

/-- The position of the `n`-th greatest logit of image `b`, as a number. -/
def num (L : FVec Ideal S64x2048x80 .f32) (b : Fin 64) (n : Fin 300) : Nat :=
  ((top L).2 (Idealize.ShloMosaic.ix2 b n)).toNat

/-- The position word holds a number below `2048 · 80`. -/
theorem num_spec (L : FVec Ideal S64x2048x80 .f32) (b : Fin 64) (n : Fin 300) :
    (top L).2 (Idealize.ShloMosaic.ix2 b n) = BitVec.ofNat 32 (num L b n) ∧ num L b n < 163840 := by
  obtain ⟨k, hk⟩ := topK_index_bound S64x300 1 (by decide) (FloatOps.cmpfTotal (F := Ideal) (φ := .f32) .gt) (flat L)
    sliceFits_S64x163840_S64x300 (Idealize.ShloMosaic.ix2 b n)
  have hlt : k.val < 163840 := k.isLt
  have hn : num L b n = k.val := by
    unfold num top
    rw [hk, BitVec.toNat_ofNat, Nat.mod_eq_of_lt (by omega)]
  rw [hn]
  exact ⟨hk, hlt⟩

/-- The position word as the word of its number. -/
theorem num_eq (L : FVec Ideal S64x2048x80 .f32) (b : Fin 64) (n : Fin 300) :
    (top L).2 (Idealize.ShloMosaic.ix2 b n) = BitVec.ofNat 32 (num L b n) := (num_spec L b n).1

/-- The number of a position is below `2048 · 80`. -/
theorem num_lt (L : FVec Ideal S64x2048x80 .f32) (b : Fin 64) (n : Fin 300) : num L b n < 163840 := (num_spec L b n).2

/-- The query the `n`-th greatest logit of image `b` belongs to: its position divided by the 80 classes. -/
def query (L : FVec Ideal S64x2048x80 .f32) (b : Fin 64) (n : Fin 300) : Fin 2048 :=
  ⟨num L b n / 80, by have := num_lt L b n; omega⟩

/-- A box given by its centre and extents `r`, as its two corners, scaled by the size `s` of the image. -/
def corners (r : Fin 4 → Ideal .f32) (s : Fin 2 → Ideal .f32) (i : Fin 4) : Ideal .f32 :=
  match i with
  | ⟨0, _⟩ => (r 0 - Ideal.ofBits .f32 0x3F000000#32 * r 2) * s 0
  | ⟨1, _⟩ => (r 1 - Ideal.ofBits .f32 0x3F000000#32 * r 3) * s 1
  | ⟨2, _⟩ => (r 0 + Ideal.ofBits .f32 0x3F000000#32 * r 2) * s 0
  | ⟨3, _⟩ => (r 1 + Ideal.ofBits .f32 0x3F000000#32 * r 3) * s 1

/-- The labels: the class of each of the greatest logits, counted from one. -/
def labels (L : FVec Ideal S64x2048x80 .f32) : IVec S64x300 32 :=
  fun y => BitVec.ofNat 32 (num L (y 0) (y 1) % 80 + 1)

/-- The scores: the logistic function of each of the greatest logits. -/
def scores (L : FVec Ideal S64x2048x80 .f32) : FVec Ideal S64x300 .f32 :=
  fun y => Ideal.logistic ((top L).1 (Idealize.ShloMosaic.ix2 (y 0) (y 1)))

/-- The boxes: the corners of the box of each selected query. -/
def boxes (L : FVec Ideal S64x2048x80 .f32) (B : FVec Ideal S64x2048x4 .f32) (Z : FVec Ideal S64x2 .f32) :
    FVec Ideal S64x300x4 .f32 :=
  fun y => corners (fun i => B (Idealize.ShloMosaic.ix3 (y 0) (query L (y 0) (y 1)) i))
    (fun j => Z (Idealize.ShloMosaic.ix2 (y 0) j)) (y 2)

/-- Coordinate `j` of keypoint `i` in a row of eighteen numbers. -/
abbrev lane (i : Fin 9) (j : Fin 2) : Fin 18 := ⟨2 * i.val + j.val, by omega⟩

/-- The keypoints of each selected query, scaled by the size of the image. -/
def keypoints (L : FVec Ideal S64x2048x80 .f32) (K : FVec Ideal S64x2048x18 .f32) (Z : FVec Ideal S64x2 .f32) :
    FVec Ideal S64x300x9x2 .f32 :=
  fun y => K (Idealize.ShloMosaic.ix3 (y 0) (query L (y 0) (y 1)) (lane (y 2) (y 3))) * Z (Idealize.ShloMosaic.ix2 (y 0) (y 3))

/-- Which keypoint a column of eighteen belongs to, and which of its coordinates it is. -/
theorem eq_lane (d : Fin 18) : ∃ (i : Fin 9) (j : Fin 2), d = lane i j :=
  ⟨⟨d.val / 2, by omega⟩, ⟨d.val % 2, by omega⟩, Fin.ext (by show d.val = 2 * (d.val / 2) + d.val % 2; omega)⟩

/-- The keypoints of each selected query as one row of eighteen numbers, keypoint after keypoint. -/
def keypointRows (L : FVec Ideal S64x2048x80 .f32) (K : FVec Ideal S64x2048x18 .f32) (Z : FVec Ideal S64x2 .f32) :
    FVec Ideal S64x300x18 .f32 :=
  fun y => K (Idealize.ShloMosaic.ix3 (y 0) (query L (y 0) (y 1)) (y 2))
    * Z (Idealize.ShloMosaic.ix2 (y 0) ⟨(y 2).val % 2, Nat.mod_lt _ (by decide)⟩)

/-- A row of eighteen numbers at coordinate `j` of keypoint `i`. -/
theorem keypointRows_lane (L : FVec Ideal S64x2048x80 .f32) (K : FVec Ideal S64x2048x18 .f32) (Z : FVec Ideal S64x2 .f32)
    (b : Fin 64) (n : Fin 300) (i : Fin 9) (j : Fin 2) :
    keypointRows L K Z (Idealize.ShloMosaic.ix3 b n (lane i j))
      = K (Idealize.ShloMosaic.ix3 b (query L b n) (lane i j)) * Z (Idealize.ShloMosaic.ix2 b j) := by
  refine congrArg (fun e => K (Idealize.ShloMosaic.ix3 b (query L b n) (lane i j)) * Z (Idealize.ShloMosaic.ix2 b e)) ?_
  exact Fin.ext (by show (2 * i.val + j.val) % 2 = j.val; omega)

/-- The visibility of each keypoint of each selected query: the logistic function of its logit. -/
def visibility (L : FVec Ideal S64x2048x80 .f32) (W : FVec Ideal S64x2048x9 .f32) : FVec Ideal S64x300x9 .f32 :=
  fun y => Ideal.logistic (W (Idealize.ShloMosaic.ix3 (y 0) (query L (y 0) (y 1)) (y 2)))

end Cert.Proof
-- ==== Proof.Block.lean ====
/- What the body of the grid kernel stores, read at an index over the blocks of one image: the division of the
   positions, the selection of a row by a product with a matrix of zeros and ones, and the five values computed. -/
module

public import proofs.«01_k».proof.Proof.Gen.KernelIdeal.Frame
public import Idealize.ShloMosaic.Lib.Pipeline.ValueKit
public import proofs.«01_k».proof.Proof.Spec

@[expose] public section

set_option maxRecDepth 16384

noncomputable section

namespace Cert.Proof

open Idealize.ShloMosaic Cert.KernelIdeal Cert.KernelIdeal.Gen

/-- The query words: each position word divided by 80. -/
theorem query_word (v : Vec Ideal S1x1x300 .i32) (n : Fin 300) (k : Nat) (hk : k < 163840)
    (hv : v (Idealize.ShloMosaic.ix3 0 0 n) = BitVec.ofNat 32 k) :
    k0_pay3 v (Idealize.ShloMosaic.ix2 0 n) = BitVec.ofNat 32 (k / 80) := by
  pointwise [k0_pay3, k0_pay2]
  rw [hv]
  exact kernel_floor_div (by omega)

/-- The labels stored: the remainder of each position by 80, plus one. -/
theorem label_block (v : Vec Ideal S1x1x300 .i32) (n : Fin 300) (k : Nat) (hk : k < 163840)
    (hv : v (Idealize.ShloMosaic.ix3 0 0 n) = BitVec.ofNat 32 k) :
    k0_pay4 v (Idealize.ShloMosaic.ix3 0 0 n) = BitVec.ofNat 32 (k % 80 + 1) := by
  pointwise [k0_pay4, k0_pay2, k0_pay3]
  rw [hv, kernel_floor_div (by omega)]
  exact label_word (by omega)

/-- The scores stored: the logistic function of each logit. -/
theorem score_block (v : Vec Ideal S1x1x300 .f32) (n : Fin 300) :
    k0_pay6 (k0_pay5 v) (Idealize.ShloMosaic.ix3 0 0 n) = Ideal.logistic (v (Idealize.ShloMosaic.ix3 0 0 n)) := by
  pointwise [k0_pay6, k0_pay5]

/-- A sum over the rows in which one row alone is taken is that row. -/
theorem sum_select_row (q : Fin 2048) (w : BitVec 32) (hw : w = BitVec.ofNat 32 q.val) (f : Fin 2048 → EReal) :
    ∑ x : Fin 2048, Scalar.select (IntOp.cmpi .eq (BitVec.ofNat 32 x.val) w) (f x) 0 = f q := by
  subst hw
  rw [Finset.sum_eq_single q]
  · exact select_of_one _ _ _ ((cmpi_eq_small (by omega) (by omega)).mpr rfl)
  · intro x _ hx
    refine select_of_zero _ _ _ (bit_zero fun h => hx ?_)
    exact Fin.ext ((cmpi_eq_small (by omega) (by omega)).mp h)
  · intro h
    exact absurd (Finset.mem_univ q) h

section Rows

variable (v : IVec S1x300 32) (B : Vec Ideal S1x2048x4 .f32) (K : Vec Ideal S1x2048x18 .f32)
  (W : Vec Ideal S1x2048x9 .f32) (n : Fin 300) (q : Fin 2048)
  (hv : v (Idealize.ShloMosaic.ix2 0 n) = BitVec.ofNat 32 q.val)

include hv

/-- The first four columns of the product are the box of the selected query. -/
theorem row_box (i : Fin 4) :
    k0_pay7 v B K W (Idealize.ShloMosaic.ix2 n ⟨i.val, by omega⟩) = B (Idealize.ShloMosaic.ix3 0 q i) := by
  pointwise [k0_pay7]
  rw [sum_select_row q _ hv]

/-- The next eighteen columns are its keypoints. -/
theorem row_keypoint (i : Fin 18) :
    k0_pay7 v B K W (Idealize.ShloMosaic.ix2 n ⟨4 + i.val, by omega⟩) = K (Idealize.ShloMosaic.ix3 0 q i) := by
  pointwise [k0_pay7]
  rw [sum_select_row q _ hv]

/-- The last nine columns are the visibility logits. -/
theorem row_visibility (i : Fin 9) :
    k0_pay7 v B K W (Idealize.ShloMosaic.ix2 n ⟨22 + i.val, by omega⟩) = W (Idealize.ShloMosaic.ix3 0 q i) := by
  pointwise [k0_pay7]
  rw [sum_select_row q _ hv, dif_neg (by simp; omega), dif_neg (by simp; omega)]
  congr 2
  exact Fin.ext (by simp; omega)

/-- The boxes stored: the corners of the selected query's box, scaled. -/
theorem box_block (x y : Vec Ideal S1x1x1 .f32) (i : Fin 4) :
    k0_pay17 (k0_pay8 x) (k0_pay9 y) (k0_pay10 v B K W) (k0_pay11 v B K W) (k0_pay13 v B K W) (k0_pay14 v B K W x)
      (k0_pay15 v B K W y) (k0_pay16 v B K W) (Idealize.ShloMosaic.ix3 0 n i)
      = corners (fun i => B (Idealize.ShloMosaic.ix3 0 q i))
          ![x (Idealize.ShloMosaic.ix3 0 0 0), y (Idealize.ShloMosaic.ix3 0 0 0)] i := by
  unfold k0_pay14 k0_pay15 k0_pay16 k0_pay10 k0_pay11 k0_pay12 k0_pay13
  have h := row_box v B K W n q hv
  generalize k0_pay7 v B K W = g at h ⊢
  have h0 : g (Idealize.ShloMosaic.ix2 n 0) = _ := h 0
  have h1 : g (Idealize.ShloMosaic.ix2 n 1) = _ := h 1
  have h2 : g (Idealize.ShloMosaic.ix2 n 2) = _ := h 2
  have h3 : g (Idealize.ShloMosaic.ix2 n 3) = _ := h 3
  obtain rfl | rfl | rfl | rfl : i = 0 ∨ i = 1 ∨ i = 2 ∨ i = 3 := by revert i; decide
  all_goals
    pointwise [k0_pay17, k0_pay8, k0_pay9]
    simp only [corners, h0, h1, h2, h3]
    rfl

/-- The keypoints stored: the selected query's, even columns scaled by the width and odd ones by the height. -/
theorem keypoint_block (x y : Vec Ideal S1x1x1 .f32) (i : Fin 9) (j : Fin 2) :
    k0_pay18 (k0_pay7 v B K W) (k0_pay8 x) (k0_pay9 y) (Idealize.ShloMosaic.ix3 0 n (lane i j))
      = K (Idealize.ShloMosaic.ix3 0 q (lane i j))
          * (![x (Idealize.ShloMosaic.ix3 0 0 0), y (Idealize.ShloMosaic.ix3 0 0 0)] : Fin 2 → Ideal .f32) j := by
  have h := row_keypoint v B K W n q hv (lane i j)
  generalize k0_pay7 v B K W = g at h ⊢
  pointwise [k0_pay18, k0_pay8, k0_pay9]
  refine congrArg₂ (· * ·) h ?_
  clear h
  fin_cases i <;> fin_cases j <;> rfl

/-- The visibilities stored: the logistic function of the selected query's logits. -/
theorem visibility_block (i : Fin 9) :
    k0_pay1 (k0_pay19 (k0_pay7 v B K W)) (Idealize.ShloMosaic.ix3 0 n i)
      = Ideal.logistic (W (Idealize.ShloMosaic.ix3 0 q i)) := by
  have h := row_visibility v B K W n q hv i
  generalize k0_pay7 v B K W = g at h ⊢
  pointwise [k0_pay1, k0_pay19]
  rw [h]

end Rows

end Cert.Proof
-- ==== Proof.Kernel.lean ====
/- The arrays the grid kernel leaves, as functions of the arguments: each block read where it lies, each output array
   tiled by the blocks its grid points store. -/
module

public import proofs.«01_k».proof.Proof.Block
public import Idealize.ShloMosaic.Lib.Claim

@[expose] public section

set_option maxRecDepth 16384

noncomputable section

namespace Cert.Proof

open Idealize.ShloMosaic Idealize.ShloMosaic.Pipeline Idealize.SL.Sem Cert.KernelIdeal Cert.KernelIdeal.Gen

/-- Every window takes, at grid point `t`, the block of image `t`. -/
theorem image_index : ∀ t : Fin cfg0.N,
    win0_0.index t = ![t.val, 0, 0] ∧ win0_1.index t = ![t.val, 0, 0] ∧ win0_2.index t = ![t.val, 0, 0]
      ∧ win0_3.index t = ![t.val, 0, 0] ∧ win0_4.index t = ![t.val, 0, 0] ∧ win0_5.index t = ![t.val, 0, 0]
      ∧ win0_6.index t = ![t.val, 0, 0] ∧ win0_7.index t = ![t.val, 0, 0] ∧ win0_8.index t = ![t.val, 0, 0]
      ∧ win0_9.index t = ![t.val, 0, 0] ∧ win0_10.index t = ![t.val, 0, 0] := by
  decide +kernel

/-- A multi-index of three axes of which the first has extent one. -/
theorem eq_ix3_zero {a b : Nat} (y : (⟨3, ![1, a, b]⟩ : Shape).Idx) :
    ∃ (i : Fin a) (j : Fin b), y = Idealize.ShloMosaic.ix3 0 i j := by
  refine ⟨y 1, y 2, ?_⟩
  funext d
  refine Fin.ext ?_
  match d with
  | ⟨0, _⟩ => exact Nat.lt_one_iff.mp (y 0).isLt
  | ⟨1, _⟩ => rfl
  | ⟨2, _⟩ => rfl

section Blocks

variable (m : (ℓ : Loc nD τ sig) → Buf (Elt Ideal) ℓ) (c : Dev nD)

/-- The logits the program is run on. -/
abbrev argL : FVec Ideal S64x2048x80 .f32 := m ((c.tc : Thread nD τ).loc main_arg0)
/-- The boxes the program is run on. -/
abbrev argB : FVec Ideal S64x2048x4 .f32 := m ((c.tc : Thread nD τ).loc main_arg1)
/-- The keypoints the program is run on. -/
abbrev argK : FVec Ideal S64x2048x18 .f32 := m ((c.tc : Thread nD τ).loc main_arg2)
/-- The visibility logits the program is run on. -/
abbrev argW : FVec Ideal S64x2048x9 .f32 := m ((c.tc : Thread nD τ).loc main_arg3)
/-- The image sizes the program is run on. -/
abbrev argZ : FVec Ideal S64x2 .f32 := m ((c.tc : Thread nD τ).loc main_arg4)

/-- The position array the grid kernel is given. -/
theorem positions_eq : V m c main_v1 = shapeCast S64x1x300 (top (argL m c)).2 shapeCasts_S64x300_S64x1x300 := rfl

/-- The array of greatest logits the grid kernel is given. -/
theorem greatest_eq : V m c main_v2 = shapeCast S64x1x300 (top (argL m c)).1 shapeCasts_S64x300_S64x1x300 := rfl

/-- The array of sizes the grid kernel is given. -/
theorem sizes_eq : V m c main_v3 = shapeCast S64x1x2 (argZ m c) shapeCasts_S64x2_S64x1x2 := rfl

/-- The position block of image `t`. -/
theorem positions_block (t : Fin cfg0.N) (n : Fin 300) :
    iblk m c 0 t (Idealize.ShloMosaic.ix3 0 0 n) = (top (argL m c)).2 (Idealize.ShloMosaic.ix2 t n) := by
  blk_simp [iblk, image_index t]
  rw [positions_eq]
  pointwise
  blk_ext [image_index t]

/-- The block of greatest logits of image `t`. -/
theorem greatest_block (t : Fin cfg0.N) (n : Fin 300) :
    iblk m c 1 t (Idealize.ShloMosaic.ix3 0 0 n) = (top (argL m c)).1 (Idealize.ShloMosaic.ix2 t n) := by
  blk_simp [iblk, image_index t]
  rw [greatest_eq]
  pointwise
  blk_ext [image_index t]

/-- The boxes of image `t`. -/
theorem boxes_block (t : Fin cfg0.N) (q : Fin 2048) (i : Fin 4) :
    iblk m c 2 t (Idealize.ShloMosaic.ix3 0 q i) = argB m c (Idealize.ShloMosaic.ix3 t q i) := by
  blk_ext [iblk, V, image_index t]

/-- The keypoints of image `t`. -/
theorem keypoints_block (t : Fin cfg0.N) (q : Fin 2048) (i : Fin 18) :
    iblk m c 3 t (Idealize.ShloMosaic.ix3 0 q i) = argK m c (Idealize.ShloMosaic.ix3 t q i) := by
  blk_ext [iblk, V, image_index t]

/-- The visibility logits of image `t`. -/
theorem visibilities_block (t : Fin cfg0.N) (q : Fin 2048) (i : Fin 9) :
    iblk m c 4 t (Idealize.ShloMosaic.ix3 0 q i) = argW m c (Idealize.ShloMosaic.ix3 t q i) := by
  blk_ext [iblk, V, image_index t]

/-- The size of image `t`. -/
theorem sizes_block (t : Fin cfg0.N) (j : Fin 2) :
    iblk m c 5 t (Idealize.ShloMosaic.ix3 0 0 j) = argZ m c (Idealize.ShloMosaic.ix2 t j) := by
  blk_simp [iblk, image_index t]
  rw [sizes_eq]
  pointwise
  blk_ext [image_index t]

/-- The width and the height of image `t`, as the body loads them. -/
theorem size_loads (t : Fin cfg0.N) :
    (![View.ld (iblk m c 5 t) r0_4 (Idealize.ShloMosaic.ix3 0 0 0), View.ld (iblk m c 5 t) r0_5 (Idealize.ShloMosaic.ix3 0 0 0)]
      : Fin 2 → Ideal .f32) = fun j => argZ m c (Idealize.ShloMosaic.ix2 t j) := by
  have h0 := sizes_block m c t 0
  have h1 := sizes_block m c t 1
  funext j
  obtain rfl | rfl : j = 0 ∨ j = 1 := by revert j; decide
  · rw [← h0]
    rfl
  · rw [← h1]
    refine congrArg (iblk m c 5 t) ?_
    funext d
    refine Fin.ext ?_
    match d with
    | ⟨0, _⟩ => rfl
    | ⟨1, _⟩ => rfl
    | ⟨2, _⟩ => rfl

/-- The query words of image `t`. -/
theorem query_block (t : Fin cfg0.N) (n : Fin 300) :
    k0_pay3 (iblk m c 0 t) (Idealize.ShloMosaic.ix2 0 n) = BitVec.ofNat 32 (query (argL m c) t n).val :=
  query_word _ n _ (num_lt (argL m c) t n) ((positions_block m c t n).trans (num_eq (argL m c) t n))

/-- The label array the grid kernel leaves. -/
theorem array_labels : (dats m 0 c).arrAt 6 cfg0.N
    = fun y : S64x1x300.Idx => labels (argL m c) (Idealize.ShloMosaic.ix2 (y 0) (y 2)) := by
  refine (dats m 0 c).arrAt_eq_of_covers 6 _ (by decide +kernel) fun t hf y => ?_
  blk_simp
  rw [after0_6]
  frame_out
  obtain ⟨u, n, rfl⟩ := eq_ix3_zero y
  obtain rfl : u = 0 := Subsingleton.elim _ _
  rw [show ((View.whole main_v4_0).slice (win0_6.rect t)).emb (Idealize.ShloMosaic.ix3 0 0 n)
    = Idealize.ShloMosaic.ix3 t 0 n by blk_ext [image_index t]]
  exact label_block _ n _ (num_lt (argL m c) t n) ((positions_block m c t n).trans (num_eq (argL m c) t n))

/-- The box array the grid kernel leaves. -/
theorem array_boxes : (dats m 0 c).arrAt 7 cfg0.N = boxes (argL m c) (argB m c) (argZ m c) := by
  refine (dats m 0 c).arrAt_eq_of_covers 7 _ (by decide +kernel) fun t hf y => ?_
  blk_simp
  rw [after0_7]
  frame_out
  obtain ⟨n, i, rfl⟩ := eq_ix3_zero y
  rw [show ((View.whole main_v4_1).slice (win0_7.rect t)).emb (Idealize.ShloMosaic.ix3 0 n i)
    = Idealize.ShloMosaic.ix3 t n i by blk_ext [image_index t]]
  unfold k0_pay20
  frame_out
  refine (box_block _ _ _ _ n _ (query_block m c t n) _ _ i).trans ?_
  rw [size_loads]
  refine congrArg (fun r => corners r _ i) ?_
  funext i
  exact boxes_block m c t _ i

/-- The score array the grid kernel leaves. -/
theorem array_scores : (dats m 0 c).arrAt 8 cfg0.N
    = fun y : S64x1x300.Idx => scores (argL m c) (Idealize.ShloMosaic.ix2 (y 0) (y 2)) := by
  refine (dats m 0 c).arrAt_eq_of_covers 8 _ (by decide +kernel) fun t hf y => ?_
  blk_simp
  rw [after0_8]
  frame_out
  obtain ⟨u, n, rfl⟩ := eq_ix3_zero y
  obtain rfl : u = 0 := Subsingleton.elim _ _
  rw [show ((View.whole main_v4_2).slice (win0_8.rect t)).emb (Idealize.ShloMosaic.ix3 0 0 n)
    = Idealize.ShloMosaic.ix3 t 0 n by blk_ext [image_index t]]
  refine (score_block _ n).trans ?_
  rw [greatest_block]
  rfl

/-- The keypoint array the grid kernel leaves, with the keypoints' coordinates side by side. -/
theorem array_keypoints : (dats m 0 c).arrAt 9 cfg0.N = keypointRows (argL m c) (argK m c) (argZ m c) := by
  refine (dats m 0 c).arrAt_eq_of_covers 9 _ (by decide +kernel) fun t hf y => ?_
  blk_simp
  rw [after0_9]
  frame_out
  obtain ⟨n, d, rfl⟩ := eq_ix3_zero y
  rw [show ((View.whole main_v4_3).slice (win0_9.rect t)).emb (Idealize.ShloMosaic.ix3 0 n d)
    = Idealize.ShloMosaic.ix3 t n d by blk_ext [image_index t]]
  unfold k0_pay21 k0_pay20
  frame_out
  obtain ⟨i, j, rfl⟩ := eq_lane d
  refine (keypoint_block _ _ _ _ n _ (query_block m c t n) _ _ i j).trans ?_
  rw [size_loads, keypoints_block]
  exact (keypointRows_lane _ _ _ t n i j).symm

/-- The visibility array the grid kernel leaves. -/
theorem array_visibility : (dats m 0 c).arrAt 10 cfg0.N = visibility (argL m c) (argW m c) := by
  refine (dats m 0 c).arrAt_eq_of_covers 10 _ (by decide +kernel) fun t hf y => ?_
  blk_simp
  rw [after0_10]
  frame_out
  obtain ⟨n, i, rfl⟩ := eq_ix3_zero y
  rw [show ((View.whole main_v4_4).slice (win0_10.rect t)).emb (Idealize.ShloMosaic.ix3 0 n i)
    = Idealize.ShloMosaic.ix3 t n i by blk_ext [image_index t]]
  unfold k0_pay21 k0_pay20
  frame_out
  refine (visibility_block _ _ _ _ n _ (query_block m c t n) i).trans ?_
  rw [visibilities_block]
  rfl

/-- The label array with its axis of extent one dropped. -/
theorem reshape_labels (L : FVec Ideal S64x2048x80 .f32) :
    shapeCast S64x300 (fun y : S64x1x300.Idx => labels L (Idealize.ShloMosaic.ix2 (y 0) (y 2))) shapeCasts_S64x1x300_S64x300
      = labels L := by
  funext y
  pointwise

/-- The score array with its axis of extent one dropped. -/
theorem reshape_scores (L : FVec Ideal S64x2048x80 .f32) :
    shapeCast S64x300 (fun y : S64x1x300.Idx => scores L (Idealize.ShloMosaic.ix2 (y 0) (y 2))) shapeCasts_S64x1x300_S64x300
      = scores L := by
  funext y
  pointwise

/-- The rows of eighteen numbers as nine pairs. -/
theorem reshape_keypoints (L : FVec Ideal S64x2048x80 .f32) (K : FVec Ideal S64x2048x18 .f32) (Z : FVec Ideal S64x2 .f32) :
    shapeCast S64x300x9x2 (keypointRows L K Z) shapeCasts_S64x300x18_S64x300x9x2 = keypoints L K Z := by
  funext y
  pointwise
  have h : (⟨(y 2).val * 2 + (y 3).val, by have : (y 2).val < 9 := (y 2).isLt; have : (y 3).val < 2 := (y 3).isLt; omega⟩ : Fin 18)
      = lane (y 2) (y 3) := Fin.ext (by show (y 2).val * 2 + (y 3).val = 2 * (y 2).val + (y 3).val; omega)
  exact (congrArg (fun d => keypointRows L K Z (Idealize.ShloMosaic.ix3 (y 0) (y 1) d)) h).trans
    (keypointRows_lane L K Z (y 0) (y 1) (y 2) (y 3))

end Blocks

end Cert.Proof
-- ==== Proof.KernelRun.lean ====
/- The run of the kernel program: its five results as functions of its arguments. -/
module

public import proofs.«01_k».proof.Defs
public import proofs.«01_k».proof.Proof.Kernel
public import Idealize.ShloMosaic.Lib.Claim

@[expose] public section

set_option maxRecDepth 16384

noncomputable section

namespace Cert.Proof

open Idealize.ShloMosaic Idealize.SL.Sem Cert.KernelIdeal Cert.KernelIdeal.Gen

variable (m : (ℓ : Loc nD τ sig) → Buf (Elt Ideal) ℓ) (c : Dev nD)

/-- No two windows have one array. -/
theorem arrays_distinct : Function.Injective (Pipeline.arrRef spec0) := by
  decide

/-- What the buffers hold when the grid is done, before the last reshapes: an array of the pipeline holds what the grid
    points stored in it. -/
theorem after_grid (w : Fin 11) : Pipeline.withArrays (cfgs 0).spec c (V0 m c) (fun w => (dats m 0 c).arrAt w (cfgs 0).N)
    (Proc.devRef .tc (Pipeline.arrRef spec0 w)) = (dats m 0 c).arrAt w (cfgs 0).N :=
  Pipeline.withArrays_arr spec0 arrays_distinct c (V0 m c) _ w

/-- The result reshaped from the array of labels holds the labels. -/
theorem tail_labels : Pipeline.afterTail₀ cfgs (dats m) 0 (V0 m) [hostOps1] c main_v6 = labels (argL m c) := by
  unfold Pipeline.afterTail₀
  after_results
  exact (congrArg (fun A => shapeCast S64x300 A shapeCasts_S64x1x300_S64x300)
    ((after_grid m c 6).trans (array_labels m c))).trans (reshape_labels _)

/-- The result reshaped from the array of scores holds the scores. -/
theorem tail_scores : Pipeline.afterTail₀ cfgs (dats m) 0 (V0 m) [hostOps1] c main_v7 = scores (argL m c) := by
  unfold Pipeline.afterTail₀
  after_results
  exact (congrArg (fun A => shapeCast S64x300 A shapeCasts_S64x1x300_S64x300)
    ((after_grid m c 8).trans (array_scores m c))).trans (reshape_scores _)

/-- The result reshaped from the array of keypoints holds the keypoints. -/
theorem tail_keypoints : Pipeline.afterTail₀ cfgs (dats m) 0 (V0 m) [hostOps1] c main_v5
    = keypoints (argL m c) (argK m c) (argZ m c) := by
  unfold Pipeline.afterTail₀
  after_results
  exact (congrArg (fun A => shapeCast S64x300x9x2 A shapeCasts_S64x300x18_S64x300x9x2)
    ((after_grid m c 9).trans (array_keypoints m c))).trans (reshape_keypoints _ _ _)

/-- Every run of the kernel ends with the labels, the boxes, the scores, the keypoints and the visibilities of the top
    300 entries in its results, and with its arguments as they were. -/
theorem kernel_run (g : Dev nD → PrngReg) :
    θ_run (defs (F := Ideal)) (onTc (τ := τ) (main (F := Ideal))) ⟨m, fun _ => 0, g⟩ fun r => ∀ c : Dev nD,
      r.2.mem ((c.tc : Thread nD τ).loc main_v6) = labels (argL m c)
      ∧ r.2.mem ((c.tc : Thread nD τ).loc main_v4_1) = boxes (argL m c) (argB m c) (argZ m c)
      ∧ r.2.mem ((c.tc : Thread nD τ).loc main_v7) = scores (argL m c)
      ∧ r.2.mem ((c.tc : Thread nD τ).loc main_v5) = keypoints (argL m c) (argK m c) (argZ m c)
      ∧ r.2.mem ((c.tc : Thread nD τ).loc main_v4_4) = visibility (argL m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from (run_main m g)
  · exact tail_labels m c
  · exact array_boxes m c
  · exact tail_scores m c
  · exact tail_keypoints m c
  · exact array_visibility m c
  · exact W_main_arg0 m (dats m) c
  · exact W_main_arg4 m (dats m) c

end Cert.Proof

end
-- ==== Proof.Sigmoid.lean ====
/- The logistic function on the extended reals is strictly increasing, so it does not change a comparison. -/
module

public import Idealize.ShloMosaic.PureOps.Ideal.Laws

@[expose] public section

noncomputable section

namespace Cert.Proof

open Idealize.ShloMosaic

/-- The logistic function is strictly increasing on the extended reals. -/
theorem logistic_strictMono : StrictMono Ideal.logistic := by
  intro x y hxy
  induction x using EReal.rec with
  | top => exact absurd hxy (not_lt_of_ge le_top)
  | bot =>
    induction y using EReal.rec with
    | bot => exact absurd hxy (lt_irrefl _)
    | top => rw [Ideal.logistic_bot, Ideal.logistic_top]; exact zero_lt_one
    | coe s =>
      rw [Ideal.logistic_bot, Ideal.logistic_coe, ← EReal.coe_zero, EReal.coe_lt_coe_iff]
      positivity
  | coe r =>
    induction y using EReal.rec with
    | bot => exact absurd hxy (not_lt_of_ge bot_le)
    | top =>
      rw [Ideal.logistic_top, Ideal.logistic_coe, ← EReal.coe_one, EReal.coe_lt_coe_iff]
      exact inv_lt_one_of_one_lt₀ (by linarith [Real.exp_pos (-r)])
    | coe s =>
      rw [Ideal.logistic_coe, Ideal.logistic_coe, EReal.coe_lt_coe_iff]
      have hrs : r < s := EReal.coe_lt_coe_iff.mp hxy
      have he : Real.exp (-s) < Real.exp (-r) := Real.exp_lt_exp.mpr (by linarith)
      exact inv_strictAnti₀ (by positivity) (by linarith)

/-- Comparing two logistic values by "greater than" gives the same bit as comparing the arguments. -/
theorem cmp_gt_logistic {φ : FTy} (a b : Ideal φ) :
    FloatOps.cmpfTotal (F := Ideal) (φ := φ) .gt (Ideal.logistic a) (Ideal.logistic b) = FloatOps.cmpfTotal (F := Ideal) (φ := φ) .gt a b := by
  rw [Ideal.cmpfTotal_def, Ideal.cmpfTotal_def]
  show BitVec.ofBool _ = BitVec.ofBool _
  congr 1
  exact decide_eq_decide.mpr logistic_strictMono.lt_iff_lt

end Cert.Proof

end
-- ==== Proof.Gather.lean ====
/- The three gathers of the reference read at an index: each takes, for image `b` and place `n`, the row of image `b`
   whose number the index array holds there. -/
module

public import proofs.«01_k».proof.Proof.Gen.ReferenceIdeal
public import Idealize.ShloMosaic.Lib.Pipeline.ValueKit
public import proofs.«01_k».proof.Proof.Words

@[expose] public section

set_option maxRecDepth 16384

noncomputable section

namespace Cert.Proof

open Idealize.ShloMosaic Cert.ReferenceIdeal

/-- The place `(b, n)` of an index array with a trailing axis of extent one. -/
abbrev place (b : Fin 64) (n : Fin 300) : S64x300x1.Idx := Idealize.ShloMosaic.ix3 b n 0

/-- A word that holds a row number, clamped into the rows as a gather does it, is that number. -/
theorem clamp_row {k : Nat} (hk : k < 2048) (w : BitVec 32) (hw : w = BitVec.ofNat 32 k) :
    min w.toInt.toNat (2048 - 1) = k := by
  subst hw
  rw [toInt_small (by omega), Int.toNat_natCast]
  omega

/-- The gather of rows of four numbers. -/
theorem gather4 {α : Type} (x : S64x2048x4.Idx → α) (J : IVec S64x300x1 32) (b : Fin 64) (n : Fin 300) (i : Fin 4)
    (q : Fin 2048) (hJ : J (place b n) = BitVec.ofNat 32 q.val) :
    Host.gather gather_S64x2048x4_S64x300x1_S64x300x4_2_1_0_0_1_2_114 x J (Idealize.ShloMosaic.ix3 b n i) = x (Idealize.ShloMosaic.ix3 b q i) := by
  let d := gather_S64x2048x4_S64x300x1_S64x300x4_2_1_0_0_1_2_114
  let y : S64x300x4.Idx := Idealize.ShloMosaic.ix3 b n i
  unfold Host.gather
  congr 1
  funext a
  refine Fin.ext ?_
  show d.start y J a + d.batchCoord y a + d.offCoord y a = _
  obtain rfl | rfl | rfl : a = (0 : Fin 3) ∨ a = (1 : Fin 3) ∨ a = (2 : Fin 3) := by
    revert a; decide
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    refine clamp_row q.isLt _ ?_
    rw [← hJ]
    congr 1
    funext e
    refine Fin.ext ?_
    match e with
    | ⟨0, _⟩ => rfl
    | ⟨1, _⟩ => rfl
    | ⟨2, _⟩ => rfl
  · rw [GatherDims.batchCoord_eq_zero _ _ _ (by decide)]
    unfold GatherDims.start
    rw [dif_neg (by decide)]
    simp only [Nat.zero_add, Nat.add_zero]
    unfold GatherDims.offCoord
    rw [dif_pos (by decide)]
    rfl

/-- The gather of rows of nine numbers. -/
theorem gather9 {α : Type} (x : S64x2048x9.Idx → α) (J : IVec S64x300x1 32) (b : Fin 64) (n : Fin 300) (i : Fin 9)
    (q : Fin 2048) (hJ : J (place b n) = BitVec.ofNat 32 q.val) :
    Host.gather gather_S64x2048x9_S64x300x1_S64x300x9_2_1_0_0_1_2_119 x J (Idealize.ShloMosaic.ix3 b n i) = x (Idealize.ShloMosaic.ix3 b q i) := by
  let d := gather_S64x2048x9_S64x300x1_S64x300x9_2_1_0_0_1_2_119
  let y : S64x300x9.Idx := Idealize.ShloMosaic.ix3 b n i
  unfold Host.gather
  congr 1
  funext a
  refine Fin.ext ?_
  show d.start y J a + d.batchCoord y a + d.offCoord y a = _
  obtain rfl | rfl | rfl : a = (0 : Fin 3) ∨ a = (1 : Fin 3) ∨ a = (2 : Fin 3) := by
    revert a; decide
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    refine clamp_row q.isLt _ ?_
    rw [← hJ]
    congr 1
    funext e
    refine Fin.ext ?_
    match e with
    | ⟨0, _⟩ => rfl
    | ⟨1, _⟩ => rfl
    | ⟨2, _⟩ => rfl
  · rw [GatherDims.batchCoord_eq_zero _ _ _ (by decide)]
    unfold GatherDims.start
    rw [dif_neg (by decide)]
    simp only [Nat.zero_add, Nat.add_zero]
    unfold GatherDims.offCoord
    rw [dif_pos (by decide)]
    rfl

/-- The gather of rows of nine pairs. -/
theorem gather9x2 {α : Type} (x : S64x2048x9x2.Idx → α) (J : IVec S64x300x1 32) (b : Fin 64) (n : Fin 300) (i : Fin 9) (j : Fin 2)
    (q : Fin 2048) (hJ : J (place b n) = BitVec.ofNat 32 q.val) :
    Host.gather gather_S64x2048x9x2_S64x300x1_S64x300x9x2_23_1_0_0_1_2_1192 x J (Idealize.ShloMosaic.ix4 b n i j) = x (Idealize.ShloMosaic.ix4 b q i j) := by
  let d := gather_S64x2048x9x2_S64x300x1_S64x300x9x2_23_1_0_0_1_2_1192
  let y : S64x300x9x2.Idx := Idealize.ShloMosaic.ix4 b n i j
  unfold Host.gather
  congr 1
  funext a
  refine Fin.ext ?_
  show d.start y J a + d.batchCoord y a + d.offCoord y a = _
  obtain rfl | rfl | rfl | rfl : a = (0 : Fin 4) ∨ a = (1 : Fin 4) ∨ a = (2 : Fin 4) ∨ a = (3 : Fin 4) := by
    revert a; decide
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    refine clamp_row q.isLt _ ?_
    rw [← hJ]
    congr 1
    funext e
    refine Fin.ext ?_
    match e with
    | ⟨0, _⟩ => rfl
    | ⟨1, _⟩ => rfl
    | ⟨2, _⟩ => rfl
  · rw [GatherDims.batchCoord_eq_zero _ _ _ (by decide)]
    unfold GatherDims.start
    rw [dif_neg (by decide)]
    simp only [Nat.zero_add, Nat.add_zero]
    unfold GatherDims.offCoord
    rw [dif_pos (by decide)]
    rfl
  · rw [GatherDims.batchCoord_eq_zero _ _ _ (by decide)]
    unfold GatherDims.start
    rw [dif_neg (by decide)]
    simp only [Nat.zero_add, Nat.add_zero]
    unfold GatherDims.offCoord
    rw [dif_pos (by decide)]
    rfl

end Cert.Proof
-- ==== Proof.Reference.lean ====
/- The reference's results as functions of the arguments, through the stages of its computation: the positions, the
   query words, the test that guards each gather, and the gathers. -/
module

public import proofs.«01_k».proof.Proof.Gen.ReferenceIdeal.Run
public import Idealize.ShloMosaic.Lib.Pipeline.ValueKit
public import Idealize.ShloMosaic.Lib.ReduceAll
public import proofs.«01_k».proof.Proof.Spec
public import proofs.«01_k».proof.Proof.Sigmoid
public import proofs.«01_k».proof.Proof.Gather

@[expose] public section

set_option maxRecDepth 16384

noncomputable section

namespace Cert.Proof.Reference

open Idealize.ShloMosaic Idealize.SL.Sem Cert.ReferenceIdeal Cert.ReferenceIdeal.Gen Cert.Proof

/-- A multi-index of two axes by its coordinates. -/
theorem eq_ix2 {a b : Nat} (y : (⟨2, ![a, b]⟩ : Shape).Idx) : y = Idealize.ShloMosaic.ix2 (y 0) (y 1) := by
  funext d
  refine Fin.ext ?_
  match d with
  | ⟨0, _⟩ => rfl
  | ⟨1, _⟩ => rfl

/-- A multi-index of three axes by its coordinates. -/
theorem eq_ix3 {a b c : Nat} (y : (⟨3, ![a, b, c]⟩ : Shape).Idx) : y = Idealize.ShloMosaic.ix3 (y 0) (y 1) (y 2) := by
  funext d
  refine Fin.ext ?_
  match d with
  | ⟨0, _⟩ => rfl
  | ⟨1, _⟩ => rfl
  | ⟨2, _⟩ => rfl

/-- A multi-index of four axes by its coordinates. -/
theorem eq_ix4 {a b c e : Nat} (y : (⟨4, ![a, b, c, e]⟩ : Shape).Idx) :
    y = Idealize.ShloMosaic.ix4 (y 0) (y 1) (y 2) (y 3) := by
  funext d
  refine Fin.ext ?_
  match d with
  | ⟨0, _⟩ => rfl
  | ⟨1, _⟩ => rfl
  | ⟨2, _⟩ => rfl
  | ⟨3, _⟩ => rfl

/-! ## The positions -/

/-- The reference's scores of every image: the logistic function, spelt out, of every logit. -/
def spelt (L : FVec Ideal S64x2048x80 .f32) : FVec Ideal S64x2048x80 .f32 :=
  Host.divf (broadcastInDim S64x2048x80 ![] bcast_S_S64x2048x80 (constant S_ .f32 0x3F800000#32))
    (addf (broadcastInDim S64x2048x80 ![] bcast_S_S64x2048x80 (constant S_ .f32 0x3F800000#32)) (Host.exp (Host.negf L)))

/-- The reference's greatest scores of every image and their positions. -/
def topScores (L : FVec Ideal S64x2048x80 .f32) : FVec Ideal S64x300 .f32 × IVec S64x300 32 :=
  Host.topK S64x300 1 (FloatOps.cmpfTotal (F := Ideal) (φ := .f32) .gt)
    (shapeCast S64x163840 (spelt L) shapeCasts_S64x2048x80_S64x163840) sliceFits_S64x163840_S64x300

/-- The scores, spelt out, are the logistic function of the logits. -/
theorem spelt_flat (L : FVec Ideal S64x2048x80 .f32) :
    shapeCast S64x163840 (spelt L) shapeCasts_S64x2048x80_S64x163840 = fun i => Ideal.logistic (flat L i) := by
  funext i
  unfold spelt flat
  pointwise
  rfl

/-- The positions of the greatest scores are those of the greatest logits. -/
theorem topScores_positions (L : FVec Ideal S64x2048x80 .f32) : (topScores L).2 = (top L).2 := by
  unfold topScores top
  rw [spelt_flat]
  exact topK_map_index _ _ _ _ _ cmp_gt_logistic _ _

/-- The greatest scores are the logistic function of the greatest logits. -/
theorem topScores_values (L : FVec Ideal S64x2048x80 .f32) : (topScores L).1 = scores L := by
  unfold topScores
  rw [spelt_flat]
  funext y
  refine (topK_map_value _ _ _ _ _ cmp_gt_logistic _ _ y).trans ?_
  exact congrArg (fun y => Ideal.logistic ((top L).1 y)) (eq_ix2 y)

/-! ## The query words -/

/-- A position array divided by 80, as the reference makes its floor division. -/
def divided (P : IVec S64x300 32) : IVec S64x300 32 :=
  select
    (andi
      (cmpi .ne (signi P) (broadcastInDim S64x300 ![] bcast_S_S64x300 (signi (id (constantI S_ 32 80#32)))))
      (cmpi .ne (Host.remsi P (broadcastInDim S64x300 ![] bcast_S_S64x300 (id (constantI S_ 32 80#32))))
        (broadcastInDim S64x300 ![] bcast_S_S64x300 (constantI S_ 32 0#32))))
    (subi (Host.divsi P (broadcastInDim S64x300 ![] bcast_S_S64x300 (id (constantI S_ 32 80#32))))
      (broadcastInDim S64x300 ![] bcast_S_S64x300 (constantI S_ 32 1#32)))
    (Host.divsi P (broadcastInDim S64x300 ![] bcast_S_S64x300 (id (constantI S_ 32 80#32))))

/-- The division read at an index. -/
theorem divided_apply (P : IVec S64x300 32) (y : S64x300.Idx) (k : Nat) (hk : k < 163840) (hP : P y = BitVec.ofNat 32 k) :
    divided P y = BitVec.ofNat 32 (k / 80) :=
  Routing.pyDiv_ap (hb := bcast_S_S64x300) P (id (constantI S_ 32 80#32)) y hP rfl (by omega) (by decide) (by decide)

/-- The query words of the reference. -/
def queries (L : FVec Ideal S64x2048x80 .f32) : IVec S64x300 32 := divided (topScores L).2

/-- A query word is the word of the query. -/
theorem queries_apply (L : FVec Ideal S64x2048x80 .f32) (b : Fin 64) (n : Fin 300) :
    queries L (Idealize.ShloMosaic.ix2 b n) = BitVec.ofNat 32 (query L b n).val := by
  unfold queries
  rw [topScores_positions]
  exact divided_apply _ _ _ (num_lt L b n) (num_eq L b n)

/-- The labels of the reference. -/
def refLabels (L : FVec Ideal S64x2048x80 .f32) : IVec S64x300 32 :=
  addi (subi (topScores L).2
      (muli (queries L) (broadcastInDim S64x300 ![] bcast_S_S64x300 (constantI S_ 32 80#32))))
    (broadcastInDim S64x300 ![] bcast_S_S64x300 (constantI S_ 32 1#32))

/-- They are the labels. -/
theorem refLabels_eq (L : FVec Ideal S64x2048x80 .f32) : refLabels L = labels L := by
  funext y
  obtain ⟨b, n, rfl⟩ : ∃ (b : Fin 64) (n : Fin 300), y = Idealize.ShloMosaic.ix2 b n := ⟨_, _, eq_ix2 y⟩
  unfold refLabels
  pointwise
  rw [topScores_positions, queries_apply, num_eq]
  exact label_word (by have := num_lt L b n; omega)

/-! ## The guarded gathers -/

/-- The index array of a gather along the queries: each query word, the number of rows added if it is negative. -/
def wrapped (Q : IVec S64x300 32) : IVec S64x300x1 32 :=
  select
    (cmpi .slt (broadcastInDim S64x300x1 ![0, 1] bcast_S64x300_S64x300x1_0_1 Q)
      (broadcastInDim S64x300x1 ![] bcast_S_S64x300x1 (constantI S_ 32 0#32)))
    (addi (broadcastInDim S64x300x1 ![0, 1] bcast_S64x300_S64x300x1_0_1 Q)
      (broadcastInDim S64x300x1 ![] bcast_S_S64x300x1 (constantI S_ 32 2048#32)))
    (broadcastInDim S64x300x1 ![0, 1] bcast_S64x300_S64x300x1_0_1 Q)

/-- The index array of the gather of pairs: the same with one more axis, which is then dropped. -/
def wrappedPairs (Q : IVec S64x300 32) : IVec S64x300x1 32 :=
  shapeCast S64x300x1
    (select
      (cmpi .slt (broadcastInDim S64x300x1x1 ![0, 1] bcast_S64x300_S64x300x1x1_0_1 Q)
        (broadcastInDim S64x300x1x1 ![] bcast_S_S64x300x1x1 (constantI S_ 32 0#32)))
      (addi (broadcastInDim S64x300x1x1 ![0, 1] bcast_S64x300_S64x300x1x1_0_1 Q)
        (broadcastInDim S64x300x1x1 ![] bcast_S_S64x300x1x1 (constantI S_ 32 2048#32)))
      (broadcastInDim S64x300x1x1 ![0, 1] bcast_S64x300_S64x300x1x1_0_1 Q))
    shapeCasts_S64x300x1x1_S64x300x1

/-- The test that every place of an index array lies among the rows. -/
def inside (J : IVec S64x300x1 32) : IVec S64x300 1 :=
  Host.reduce IntOp.andi
    (andi (cmpi .sge J (broadcastInDim S64x300x1 ![] bcast_S_S64x300x1 (constantI S_ 32 0#32)))
      (cmpi .sle J (broadcastInDim S64x300x1 ![0, 1, 2] bcast_S1x1x1_S64x300x1_0_1_2
        (broadcastInDim S1x1x1 ![2] bcast_S1_S1x1x1_2 (constantI S1 32 2047#32)))))
    (constantI S_ 1 1#1) reducesTo_S64x300x1_S64x300_d2 h_S_

/-- An index array holds, at every place, the query of that place. -/
def Holds (L : FVec Ideal S64x2048x80 .f32) (J : IVec S64x300x1 32) : Prop :=
  ∀ b n, J (place b n) = BitVec.ofNat 32 (query L b n).val

/-- The index array of the gathers holds the queries. -/
theorem wrapped_holds (L : FVec Ideal S64x2048x80 .f32) : Holds L (wrapped (queries L)) := fun b n => by
  unfold wrapped
  pointwise
  rw [queries_apply, slt_zero (by have := (query L b n).isLt; omega)]
  rfl

/-- So does the one of the gather of pairs. -/
theorem wrappedPairs_holds (L : FVec Ideal S64x2048x80 .f32) : Holds L (wrappedPairs (queries L)) := fun b n => by
  unfold wrappedPairs
  pointwise
  rw [queries_apply, slt_zero (by have := (query L b n).isLt; omega)]
  rfl

/-- Where the index array holds the queries, the test succeeds everywhere. -/
theorem inside_one (L : FVec Ideal S64x2048x80 .f32) (J : IVec S64x300x1 32) (hJ : Holds L J) (y : S64x300.Idx) :
    inside J y = 1#1 := by
  unfold inside
  refine Host.reduce_andi_one _ _ _ _ y rfl fun x => ?_
  obtain ⟨b, n, u, rfl⟩ : ∃ (b : Fin 64) (n : Fin 300) (u : Fin 1), x = Idealize.ShloMosaic.ix3 b n u := ⟨_, _, _, eq_ix3 x⟩
  obtain rfl : u = 0 := Subsingleton.elim _ _
  have hq := (query L b n).isLt
  pointwise
  rw [hJ b n, sge_zero (by omega), show (2047#32 : BitVec 32) = BitVec.ofNat 32 2047 from rfl,
    sle_small (by omega) (by decide)]
  rfl

/-! ## The results -/

/-- The visibilities of the reference, over its index array. -/
def refVisibility (W : FVec Ideal S64x2048x9 .f32) (J : IVec S64x300x1 32) : FVec Ideal S64x300x9 .f32 :=
  Host.divf (broadcastInDim S64x300x9 ![] bcast_S_S64x300x9 (constant S_ .f32 0x3F800000#32))
    (addf (broadcastInDim S64x300x9 ![] bcast_S_S64x300x9 (constant S_ .f32 0x3F800000#32))
      (Host.exp (Host.negf (select (broadcastInDim S64x300x9 ![0, 1] bcast_S64x300_S64x300x9_0_1 (inside J))
        (Host.gather gather_S64x2048x9_S64x300x1_S64x300x9_2_1_0_0_1_2_119 W J)
        (broadcastInDim S64x300x9 ![] bcast_S_S64x300x9 (constant S_ .f32 0x7FC00000#32))))))

/-- They are the visibilities. -/
theorem refVisibility_eq (L : FVec Ideal S64x2048x80 .f32) (W : FVec Ideal S64x2048x9 .f32) (J : IVec S64x300x1 32)
    (hJ : Holds L J) : refVisibility W J = visibility L W := by
  funext y
  obtain ⟨b, n, i, rfl⟩ : ∃ (b : Fin 64) (n : Fin 300) (i : Fin 9), y = Idealize.ShloMosaic.ix3 b n i := ⟨_, _, _, eq_ix3 y⟩
  unfold refVisibility
  have hg := gather9 W J b n i (query L b n) (hJ b n)
  have hi := inside_one L J hJ
  generalize Host.gather _ W J = G at hg ⊢
  pointwise
  rw [hi, select_of_one _ _ _ rfl, hg]
  rfl

/-- The keypoints of the reference, over its index array. -/
def refKeypoints (K : FVec Ideal S64x2048x18 .f32) (Z : FVec Ideal S64x2 .f32) (J : IVec S64x300x1 32) :
    FVec Ideal S64x300x9x2 .f32 :=
  mulf
    (select (broadcastInDim S64x300x9x2 ![0, 1] bcast_S64x300_S64x300x9x2_0_1 (inside J))
      (Host.gather gather_S64x2048x9x2_S64x300x1_S64x300x9x2_23_1_0_0_1_2_1192
        (shapeCast S64x2048x9x2 K shapeCasts_S64x2048x18_S64x2048x9x2) J)
      (broadcastInDim S64x300x9x2 ![] bcast_S_S64x300x9x2 (constant S_ .f32 0x7FC00000#32)))
    (broadcastInDim S64x300x9x2 ![0, 1, 2, 3] bcast_S64x1x1x2_S64x300x9x2_0_1_2_3
      (broadcastInDim S64x1x1x2 ![0, 3] bcast_S64x2_S64x1x1x2_0_3 Z))

/-- The keypoint rows of the reference: nine pairs out of eighteen numbers. -/
theorem pairs_apply (K : FVec Ideal S64x2048x18 .f32) (b : Fin 64) (q : Fin 2048) (i : Fin 9) (j : Fin 2) :
    shapeCast S64x2048x9x2 K shapeCasts_S64x2048x18_S64x2048x9x2 (Idealize.ShloMosaic.ix4 b q i j)
      = K (Idealize.ShloMosaic.ix3 b q (lane i j)) := by
  pointwise
  refine congrArg (fun d => K (Idealize.ShloMosaic.ix3 b q d)) (Fin.ext ?_)
  show i.val * 2 + j.val = 2 * i.val + j.val
  omega

/-- They are the keypoints. -/
theorem refKeypoints_eq (L : FVec Ideal S64x2048x80 .f32) (K : FVec Ideal S64x2048x18 .f32) (Z : FVec Ideal S64x2 .f32)
    (J : IVec S64x300x1 32) (hJ : Holds L J) : refKeypoints K Z J = keypoints L K Z := by
  funext y
  obtain ⟨b, n, i, j, rfl⟩ : ∃ (b : Fin 64) (n : Fin 300) (i : Fin 9) (j : Fin 2), y = Idealize.ShloMosaic.ix4 b n i j :=
    ⟨_, _, _, _, eq_ix4 y⟩
  unfold refKeypoints
  have hg := (gather9x2 (shapeCast S64x2048x9x2 K shapeCasts_S64x2048x18_S64x2048x9x2) J b n i j (query L b n)
    (hJ b n)).trans (pairs_apply K b _ i j)
  have hi := inside_one L J hJ
  generalize Host.gather _ _ J = G at hg ⊢
  pointwise
  rw [hi, select_of_one _ _ _ rfl, hg]
  rfl

/-- The corners of every box, scaled, as the reference computes them before it selects. -/
def allBoxes (B : FVec Ideal S64x2048x4 .f32) (Z : FVec Ideal S64x2 .f32) : FVec Ideal S64x2048x4 .f32 :=
  mulf
    (concatenate S64x2048x4 2
      [⟨S64x2048x1, subf (extractStridedSlice S64x2048x1 ![0, 0, 0] B slices_S64x2048x4_S64x2048x1_0_0_0)
          (mulf (broadcastInDim S64x2048x1 ![] bcast_S_S64x2048x1 (constant S_ .f32 0x3F000000#32))
            (extractStridedSlice S64x2048x1 ![0, 0, 2] B slices_S64x2048x4_S64x2048x1_0_0_2))⟩,
        ⟨S64x2048x1, subf (extractStridedSlice S64x2048x1 ![0, 0, 1] B slices_S64x2048x4_S64x2048x1_0_0_1)
          (mulf (broadcastInDim S64x2048x1 ![] bcast_S_S64x2048x1 (constant S_ .f32 0x3F000000#32))
            (extractStridedSlice S64x2048x1 ![0, 0, 3] B slices_S64x2048x4_S64x2048x1_0_0_3))⟩,
        ⟨S64x2048x1, addf (extractStridedSlice S64x2048x1 ![0, 0, 0] B slices_S64x2048x4_S64x2048x1_0_0_0)
          (mulf (broadcastInDim S64x2048x1 ![] bcast_S_S64x2048x1 (constant S_ .f32 0x3F000000#32))
            (extractStridedSlice S64x2048x1 ![0, 0, 2] B slices_S64x2048x4_S64x2048x1_0_0_2))⟩,
        ⟨S64x2048x1, addf (extractStridedSlice S64x2048x1 ![0, 0, 1] B slices_S64x2048x4_S64x2048x1_0_0_1)
          (mulf (broadcastInDim S64x2048x1 ![] bcast_S_S64x2048x1 (constant S_ .f32 0x3F000000#32))
            (extractStridedSlice S64x2048x1 ![0, 0, 3] B slices_S64x2048x4_S64x2048x1_0_0_3))⟩]
      concatenates_S64x2048x1_S64x2048x1_S64x2048x1_S64x2048x1_S64x2048x4_d2)
    (broadcastInDim S64x2048x4 ![0, 1, 2] bcast_S64x1x4_S64x2048x4_0_1_2
      (broadcastInDim S64x1x4 ![0, 2] bcast_S64x4_S64x1x4_0_2
        (shapeCast S64x4
          (broadcastInDim S1x64x2x2 ![0, 1, 2, 3] bcast_S1x64x1x2_S1x64x2x2_0_1_2_3
            (shapeCast S1x64x1x2 Z shapeCasts_S64x2_S1x64x1x2))
          shapeCasts_S1x64x2x2_S64x4)))

/-- One of them. -/
theorem allBoxes_apply (B : FVec Ideal S64x2048x4 .f32) (Z : FVec Ideal S64x2 .f32) (b : Fin 64) (q : Fin 2048) (i : Fin 4) :
    allBoxes B Z (Idealize.ShloMosaic.ix3 b q i)
      = corners (fun i => B (Idealize.ShloMosaic.ix3 b q i)) (fun j => Z (Idealize.ShloMosaic.ix2 b j)) i := by
  obtain rfl | rfl | rfl | rfl : i = 0 ∨ i = 1 ∨ i = 2 ∨ i = 3 := by revert i; decide
  all_goals
    unfold allBoxes
    pointwise
    rfl

/-- The boxes of the reference, over its index array. -/
def refBoxes (B : FVec Ideal S64x2048x4 .f32) (Z : FVec Ideal S64x2 .f32) (J : IVec S64x300x1 32) :
    FVec Ideal S64x300x4 .f32 :=
  select (broadcastInDim S64x300x4 ![0, 1] bcast_S64x300_S64x300x4_0_1 (inside J))
    (Host.gather gather_S64x2048x4_S64x300x1_S64x300x4_2_1_0_0_1_2_114 (allBoxes B Z) J)
    (broadcastInDim S64x300x4 ![] bcast_S_S64x300x4 (constant S_ .f32 0x7FC00000#32))

/-- They are the boxes. -/
theorem refBoxes_eq (L : FVec Ideal S64x2048x80 .f32) (B : FVec Ideal S64x2048x4 .f32) (Z : FVec Ideal S64x2 .f32)
    (J : IVec S64x300x1 32) (hJ : Holds L J) : refBoxes B Z J = boxes L B Z := by
  funext y
  obtain ⟨b, n, i, rfl⟩ : ∃ (b : Fin 64) (n : Fin 300) (i : Fin 4), y = Idealize.ShloMosaic.ix3 b n i := ⟨_, _, _, eq_ix3 y⟩
  unfold refBoxes
  have hg := (gather4 (allBoxes B Z) J b n i (query L b n) (hJ b n)).trans (allBoxes_apply B Z b _ i)
  have hi := inside_one L J hJ
  generalize Host.gather _ _ J = G at hg ⊢
  pointwise
  rw [hi, select_of_one _ _ _ rfl, hg]
  rfl

/-! ## The printed results -/

variable (m : (ℓ : Loc nD τ sig) → Buf (Elt Ideal) ℓ) (c : Dev nD)

/-- The visibility result of the printed reference, as its stages. -/
theorem printed_visibility : Value.res_main_v50 m c
    = refVisibility (m ((c.tc : Thread nD τ).loc main_arg3)) (wrapped (queries (m ((c.tc : Thread nD τ).loc main_arg0)))) := rfl

/-- The keypoint result of the printed reference, as its stages. -/
theorem printed_keypoints : Value.res_main_v42 m c
    = refKeypoints (m ((c.tc : Thread nD τ).loc main_arg2)) (m ((c.tc : Thread nD τ).loc main_arg4))
        (wrappedPairs (queries (m ((c.tc : Thread nD τ).loc main_arg0)))) := rfl

/-- The box result of the printed reference, as its stages. -/
theorem printed_boxes : Value.res_main_v36 m c
    = refBoxes (m ((c.tc : Thread nD τ).loc main_arg1)) (m ((c.tc : Thread nD τ).loc main_arg4))
        (wrapped (queries (m ((c.tc : Thread nD τ).loc main_arg0)))) := rfl

end Cert.Proof.Reference
-- ==== Proof.ReferenceRun.lean ====
/- The run of the reference program: its five results as functions of its arguments, and its frame. -/
module

public import proofs.«01_k».proof.Defs
public import proofs.«01_k».proof.Proof.Reference
public import Idealize.ShloMosaic.Lib.Quiescent
public import Idealize.ShloMosaic.Lib.Claim

@[expose] public section

set_option maxRecDepth 16384

noncomputable section

namespace Cert.Proof.Reference

open Idealize.ShloMosaic Idealize.SL.Sem Cert.ReferenceIdeal Cert.ReferenceIdeal.Gen Cert.Proof

variable (m : (ℓ : Loc nD τ sig) → Buf (Elt Ideal) ℓ) (g : Dev nD → PrngReg)

/-- Every run of the reference ends with the labels, the boxes, the scores, the keypoints and the visibilities of the top
    300 entries in its results, and with its arguments as they were. -/
theorem reference_run :
    θ_run (defs (F := Ideal)) (onTc (τ := τ) (main (F := Ideal))) ⟨m, fun _ => 0, g⟩ fun r => ∀ c : Dev nD,
      r.2.mem ((c.tc : Thread nD τ).loc main_v52) = labels (m ((c.tc : Thread nD τ).loc main_arg0))
      ∧ r.2.mem ((c.tc : Thread nD τ).loc main_v36) = boxes (m ((c.tc : Thread nD τ).loc main_arg0))
          (m ((c.tc : Thread nD τ).loc main_arg1)) (m ((c.tc : Thread nD τ).loc main_arg4))
      ∧ r.2.mem ((c.tc : Thread nD τ).loc main_values) = scores (m ((c.tc : Thread nD τ).loc main_arg0))
      ∧ r.2.mem ((c.tc : Thread nD τ).loc main_v42) = keypoints (m ((c.tc : Thread nD τ).loc main_arg0))
          (m ((c.tc : Thread nD τ).loc main_arg2)) (m ((c.tc : Thread nD τ).loc main_arg4))
      ∧ r.2.mem ((c.tc : Thread nD τ).loc main_v50) = visibility (m ((c.tc : Thread nD τ).loc main_arg0))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Value.run m g) fun _ h c =>
    ⟨(h c).1.trans (refLabels_eq _),
      (h c).2.1.trans ((printed_boxes m c).trans (refBoxes_eq _ _ _ _ (wrapped_holds _))),
      (h c).2.2.1.trans (topScores_values _),
      (h c).2.2.2.1.trans ((printed_keypoints m c).trans (refKeypoints_eq _ _ _ _ (wrappedPairs_holds _))),
      (h c).2.2.2.2.1.trans ((printed_visibility m c).trans (refVisibility_eq _ _ _ (wrapped_holds _))),
      (h c).2.2.2.2.2⟩

/-- The reference leaves its arguments as they were and every semaphore counter at zero. -/
theorem reference_frame :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  θ_run_mono (reference_run m g) fun r h => ⟨fun c => (h c).2.2.2.2.2, sem_eq_zero_of_no_sems (by decide) r.2⟩

end Cert.Proof.Reference

end
-- ==== Proof.lean ====
/- The proof of the claim: the three programs run to completion, leave their arguments as they were and end with every
   semaphore counter at zero; the idealised kernel is the printed one with nothing replaced; and on the same arguments the
   kernel and the reference end with the same five results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.ReferenceRun
public import Idealize.ShloMosaic.Lib.Claim
public import Idealize.ShloMosaic.Adequacy
public import Idealize.ShloMosaic.Init

@[expose] public section

noncomputable section

namespace Cert.Proof

open Idealize.ShloMosaic Idealize.SL.Sem

/-- On equal arguments the kernel and the reference end with equal labels, boxes, scores, keypoints and visibilities. -/
theorem same_results : Cert.algebraic_KernelIdeal_ReferenceIdeal := by
  intro m g m' g' _ hagree
  refine ⟨fun c => labels (argL m c), fun c => boxes (argL m c) (argB m c) (argZ m c), fun c => scores (argL m c),
    fun c => keypoints (argL m c) (argK m c) (argZ m c), fun c => visibility (argL m c) (argW m c),
    kernel_run m g, θ_run_mono (Reference.reference_run m' g') fun r h c => ?_⟩
  obtain ⟨h₀, h₁, h₂, h₃, h₄⟩ := hagree c
  have hr := h c
  rw [h₀, h₁, h₂, h₃, h₄] at hr
  rw [h₀, h₁, h₂, h₃, h₄]
  exact hr

/-- The claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Reference.reference_frame m ρ, trivial, same_results⟩

end Cert.Proof

end
